-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x64x8x32x32 : Shape := ⟨5, ![4, 64, 8, 32, 32]⟩
abbrev S1024x64 : Shape := ⟨2, ![1024, 64]⟩
abbrev S_ : Shape := ⟨0, ![]⟩

class Facts : Prop where
  bcast_S_S4x64x8x32x32 : S_.BroadcastsInDim S4x64x8x32x32 (![] : Fin 0 → Fin S4x64x8x32x32.rank)

variable [Facts]

def fn {F : FTy → Type} [FloatOps F] (main_arg0 : FVec F S4x64x8x32x32 .f32) (main_arg1 : FVec F S1024x64 .f32) : IVec S4x64x8x32x32 1 :=
  let main_v0 : FVec F S4x64x8x32x32 .f32 := Host.absf main_arg0
  let main_cst : FVec F S_ .f32 := constant S_ .f32 0x7F800000#32
  let main_v1 : FVec F S4x64x8x32x32 .f32 := broadcastInDim S4x64x8x32x32 ![] bcast_S_S4x64x8x32x32 main_cst
  let main_v2 : IVec S4x64x8x32x32 1 := cmpf .olt main_v0 main_v1
  main_v2
-- ==== Kernel.lean ====
abbrev S4x64x8x32x32 : Shape := ⟨5, ![4, 64, 8, 32, 32]⟩
abbrev S1024x64 : Shape := ⟨2, ![1024, 64]⟩
abbrev S4x8x32x32x64 : Shape := ⟨5, ![4, 8, 32, 32, 64]⟩
abbrev S32768x64 : Shape := ⟨2, ![32768, 64]⟩
abbrev S64x1024 : Shape := ⟨2, ![64, 1024]⟩
abbrev S32768x1 : Shape := ⟨2, ![32768, 1]⟩
abbrev S1x1 : Shape := ⟨2, ![1, 1]⟩
abbrev S4096x64 : Shape := ⟨2, ![4096, 64]⟩
abbrev S4096x1 : Shape := ⟨2, ![4096, 1]⟩
abbrev S1024 : Shape := ⟨1, ![1024]⟩
abbrev S1x1024 : Shape := ⟨2, ![1, 1024]⟩
abbrev S512x1024 : Shape := ⟨2, ![512, 1024]⟩
abbrev S512x64 : Shape := ⟨2, ![512, 64]⟩
abbrev S512 : Shape := ⟨1, ![512]⟩
abbrev S512x1 : Shape := ⟨2, ![512, 1]⟩
abbrev S1x512x64 : Shape := ⟨3, ![1, 512, 64]⟩
abbrev S1 : Shape := ⟨1, ![1]⟩
abbrev S1x1x1 : Shape := ⟨3, ![1, 1, 1]⟩
abbrev S4x8x32x32 : Shape := ⟨4, ![4, 8, 32, 32]⟩
abbrev S_ : Shape := ⟨0, ![]⟩

abbrev nBuf : Space → Nat
  | .hbm => 14
  | .vmem => 8
  | .smem => 1
  | _ => 0

abbrev bufTy : (tb : Table) → Fin (tcTables nBuf tb) → BufTy
  | .hbm, ⟨0, _⟩ => ⟨S4x64x8x32x32, .f32⟩
  | .hbm, ⟨1, _⟩ => ⟨S1024x64, .f32⟩
  | .hbm, ⟨2, _⟩ => ⟨S4x8x32x32x64, .f32⟩
  | .hbm, ⟨3, _⟩ => ⟨S32768x64, .f32⟩
  | .hbm, ⟨4, _⟩ => ⟨S64x1024, .f32⟩
  | .hbm, ⟨5, _⟩ => ⟨S32768x64, .f32⟩
  | .hbm, ⟨6, _⟩ => ⟨S32768x1, .i32⟩
  | .hbm, ⟨7, _⟩ => ⟨S1x1, .f32⟩
  | .hbm, ⟨8, _⟩ => ⟨S4x8x32x32x64, .f32⟩
  | .hbm, ⟨9, _⟩ => ⟨S4x64x8x32x32, .f32⟩
  | .hbm, ⟨10, _⟩ => ⟨S4x8x32x32, .i32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S64x1024, .f32⟩
  | .local _ .vmem, ⟨4, _⟩ => ⟨S4096x64, .f32⟩
  | .local _ .vmem, ⟨5, _⟩ => ⟨S4096x64, .f32⟩
  | .local _ .vmem, ⟨6, _⟩ => ⟨S4096x1, .i32⟩
  | .local _ .vmem, ⟨7, _⟩ => ⟨S4096x1, .i32⟩
  | .local _ .smem, ⟨0, _⟩ => ⟨S1x1, .f32⟩
  | _, _ => ⟨S4x64x8x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x64x8x32x32 : Shape := ⟨5, ![4, 64, 8, 32, 32]⟩
abbrev S1024x64 : Shape := ⟨2, ![1024, 64]⟩
abbrev S4x8x32x32x64 : Shape := ⟨5, ![4, 8, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S32768x1024 : Shape := ⟨2, ![32768, 1024]⟩
abbrev S64x1024 : Shape := ⟨2, ![64, 1024]⟩
abbrev S1 : Shape := ⟨1, ![1]⟩
abbrev S1x1 : Shape := ⟨2, ![1, 1]⟩
abbrev S4x8x32x32 : Shape := ⟨4, ![4, 8, 32, 32]⟩

abbrev nBuf : Space → Nat
  | .hbm => 73
  | .vmem => 0
  | .smem => 0
  | _ => 0

abbrev bufTy : (tb : Table) → Fin (tcTables nBuf tb) → BufTy
  | .hbm, ⟨0, _⟩ => ⟨S4x64x8x32x32, .f32⟩
  | .hbm, ⟨1, _⟩ => ⟨S1024x64, .f32⟩
  | .hbm, ⟨2, _⟩ => ⟨S4x8x32x32x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S64x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .i32⟩
  | .hbm, ⟨26, _⟩ => ⟨S_, .f32⟩
  | .hbm, ⟨27, _⟩ => ⟨S_, .i32⟩
  | .hbm, ⟨28, _⟩ => ⟨S32768, .f32⟩
  | .hbm, ⟨29, _⟩ => ⟨S32768, .i32⟩
  | .hbm, ⟨30, _⟩ => ⟨S_, .i32⟩
  | .hbm, ⟨31, _⟩ => ⟨S32768, .i32⟩
  | .hbm, ⟨32, _⟩ => ⟨S32768, .i1⟩
  | .hbm, ⟨33, _⟩ => ⟨S_, .i32⟩
  | .hbm, ⟨34, _⟩ => ⟨S32768, .i32⟩
  | .hbm, ⟨35, _⟩ => ⟨S32768, .i32⟩
  | .hbm, ⟨36, _⟩ => ⟨S32768, .i32⟩
  | .hbm, ⟨37, _⟩ => ⟨S32768x1, .i32⟩
  | .hbm, ⟨38, _⟩ => ⟨S1, .i32⟩
  | .hbm, ⟨39, _⟩ => ⟨S_, .i32⟩
  | .hbm, ⟨40, _⟩ => ⟨S32768x1, .i32⟩
  | .hbm, ⟨41, _⟩ => ⟨S32768x1, .i1⟩
  | .hbm, ⟨42, _⟩ => ⟨S1x1, .i32⟩
  | .hbm, ⟨43, _⟩ => ⟨S32768x1, .i32⟩
  | .hbm, ⟨44, _⟩ => ⟨S32768x1, .i1⟩
  | .hbm, ⟨45, _⟩ => ⟨S32768x1, .i1⟩
  | .hbm, ⟨46, _⟩ => ⟨S_, .i1⟩
  | .hbm, ⟨47, _⟩ => ⟨S32768, .i1⟩
  | .hbm, ⟨48, _⟩ => ⟨S32768x64, .f32⟩
  | .hbm, ⟨49, _⟩ => ⟨S32768x64, .i1⟩
  | .hbm, ⟨50, _⟩ => ⟨S_, .f32⟩
  | .hbm, ⟨51, _⟩ => ⟨S32768x64, .f32⟩
  | .hbm, ⟨52, _⟩ => ⟨S32768x64, .f32⟩
  | .hbm, ⟨53, _⟩ => ⟨S4x8x32x32x64, .f32⟩
  | .hbm, ⟨54, _⟩ => ⟨S4x64x8x32x32, .f32⟩
  | .hbm, ⟨55, _⟩ => ⟨S4x64x8x32x32, .f32⟩
  | .hbm, ⟨56, _⟩ => ⟨S4x64x8x32x32, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x64x8x32x32, .f32⟩
  | .hbm, ⟨62, _⟩ => ⟨S4x64x8x32x32, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4x64x8x32x32, .f32⟩
  | .hbm, ⟨71, _⟩ => ⟨S4x64x8x32x32, .f32⟩
  | .hbm, ⟨72, _⟩ => ⟨S4x8x32x32, .i32⟩
  | _, _ => ⟨S4x64x8x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_3 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_cst_7 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩

abbrev nD : Nat := 1
abbrev τ : Topo := Topo.v7x

variable {F : FTy → Type} [FloatOps F]
-- ==== Proof.Nearest.lean ====
/- The arithmetic of "the nearest row", free of either program: the first index of the least of 1024 values, the two
   ways the programs search for it (a least value and then a least matching index; one pass over value-index pairs),
   and the selection of a row by a one-hot sum. -/
module

public import proofs.«01_k».proof.ReferenceIdeal
public import Idealize.ShloMosaic.Lib.Pointwise

@[expose] public section

set_option maxRecDepth 16384

noncomputable section

namespace Cert.Nearest

open Idealize.ShloMosaic Idealize.ShloMosaic.TcCoe Idealize.SL.Sem

/-! ## The first index of the least value -/

/-- Some of the 1024 values is least. -/
theorem least_nonempty (d : Fin 1024 → EReal) : (Finset.univ.filter fun j => ∀ k, d j ≤ d k).Nonempty := by
  obtain ⟨j, _, hj⟩ := Finset.exists_min_image Finset.univ d Finset.univ_nonempty
  exact ⟨j, Finset.mem_filter.mpr ⟨Finset.mem_univ _, fun k => hj k (Finset.mem_univ _)⟩⟩

/-- The first index at which the least of the 1024 values stands. -/
def best (d : Fin 1024 → EReal) : Fin 1024 := (Finset.univ.filter fun j => ∀ k, d j ≤ d k).min' (least_nonempty d)

/-- The value at the first least index is at most every value. -/
theorem best_le (d : Fin 1024 → EReal) (k : Fin 1024) : d (best d) ≤ d k :=
  (Finset.mem_filter.mp (Finset.min'_mem _ (least_nonempty d))).2 k

/-- No earlier index has the least value. -/
theorem best_first (d : Fin 1024 → EReal) (k : Fin 1024) (h : d k ≤ d (best d)) : best d ≤ k :=
  Finset.min'_le _ _ (Finset.mem_filter.mpr ⟨Finset.mem_univ _, fun i => h.trans (best_le d i)⟩)

/-! ## The search in two steps: the least value, then the least index that has it -/

/-- The running minimum from +∞ is the value at the first least index. -/
theorem fold_min_eq (d : Fin 1024 → EReal) : Finset.univ.fold min ⊤ d = d (best d) := by
  apply le_antisymm
  · exact Finset.fold_min_le _ |>.mpr (Or.inr ⟨best d, Finset.mem_univ _, le_rfl⟩)
  · exact Finset.le_fold_min _ |>.mpr ⟨le_top, fun k _ => best_le d k⟩

/-- A fold of an operation that returns one of its two operands, neither exceeding it in a measure `key`:
    it is the initial value or one of the values folded, and of least measure among them. -/
theorem fold_select {α : Type} (op : α → α → α) [Std.Commutative op] [Std.Associative op] (key : α → ℤ)
    (hsel : ∀ a b, op a b = a ∨ op a b = b) (hl : ∀ a b, key (op a b) ≤ key a) (hr : ∀ a b, key (op a b) ≤ key b)
    (b : α) (f : Fin 1024 → α) (s : Finset (Fin 1024)) :
    (s.fold op b f = b ∨ ∃ x ∈ s, s.fold op b f = f x) ∧ key (s.fold op b f) ≤ key b
      ∧ ∀ x ∈ s, key (s.fold op b f) ≤ key (f x) := by
  classical
  induction s using Finset.induction_on with
  | empty => exact ⟨Or.inl (Finset.fold_empty), by rw [Finset.fold_empty], by simp⟩
  | insert a s ha ih =>
    obtain ⟨h1, h2, h3⟩ := ih
    rw [Finset.fold_insert ha]
    refine ⟨?_, (hr _ _).trans h2, fun x hx => ?_⟩
    · rcases hsel (f a) (s.fold op b f) with h | h
      · exact Or.inr ⟨a, Finset.mem_insert_self _ _, h⟩
      · rw [h]
        rcases h1 with h1 | ⟨x, hx, h1⟩
        · exact Or.inl h1
        · exact Or.inr ⟨x, Finset.mem_insert_of_mem hx, h1⟩
    · rcases Finset.mem_insert.mp hx with rfl | hx
      · exact hl _ _
      · exact (hr _ _).trans (h3 x hx)

/-- A word below 2³¹ reads as its own number when signed. -/
theorem toInt_small (n : ℕ) (h : n < 2147483648) : (BitVec.ofNat 32 n).toInt = n := by
  rw [BitVec.toInt_eq_toNat_cond, BitVec.toNat_ofNat]
  split <;> omega

/-- The least of the lane numbers that carry the least value, 1024 standing for the other lanes, is the first
    least index. -/
theorem fold_index (d : Fin 1024 → EReal) :
    Finset.univ.fold IntOp.minsi (2147483647#32)
        (fun k => if d k = d (best d) then BitVec.ofNat 32 (k : ℕ) else 1024#32) = BitVec.ofNat 32 (best d : ℕ) := by
  have hsel : ∀ a b : BitVec 32, IntOp.minsi a b = a ∨ IntOp.minsi a b = b := fun a b => by
    unfold IntOp.minsi; split <;> simp
  have hl : ∀ a b : BitVec 32, (IntOp.minsi a b).toInt ≤ a.toInt := fun a b => by
    unfold IntOp.minsi; simp only [BitVec.sle, BitVec.slt, decide_eq_true_eq]; split <;> omega
  have hr : ∀ a b : BitVec 32, (IntOp.minsi a b).toInt ≤ b.toInt := fun a b => by
    unfold IntOp.minsi; simp only [BitVec.sle, BitVec.slt, decide_eq_true_eq]; split <;> omega
  obtain ⟨h1, -, h3⟩ := fold_select IntOp.minsi BitVec.toInt hsel hl hr (2147483647#32)
    (fun k => if d k = d (best d) then BitVec.ofNat 32 (k : ℕ) else 1024#32) Finset.univ
  have hb := h3 (best d) (Finset.mem_univ _)
  have hB := (best d).isLt
  simp only [if_true] at hb
  rw [toInt_small _ (by omega)] at hb
  rcases h1 with h1 | ⟨k, -, h1⟩
  · rw [h1] at hb
    have : (2147483647#32 : BitVec 32).toInt = 2147483647 := by decide
    omega
  · rw [h1] at hb ⊢
    have hk := k.isLt
    by_cases he : d k = d (best d)
    · rw [if_pos he] at hb ⊢
      rw [toInt_small _ (by omega)] at hb
      have := Fin.le_def.mp (best_first d k (le_of_eq he))
      rw [show (k : ℕ) = best d by omega]
    · rw [if_neg he] at hb
      have : (1024#32 : BitVec 32).toInt = 1024 := by decide
      omega

/-- The search in two steps finds the first least index. -/
theorem search_eq (d : Fin 1024 → EReal) :
    Finset.univ.fold IntOp.minsi (2147483647#32)
        (fun k => if d k = Finset.univ.fold min ⊤ d then BitVec.ofNat 32 (k : ℕ) else 1024#32) = BitVec.ofNat 32 (best d : ℕ) := by
  rw [fold_min_eq]
  exact fold_index d

/-! ## The search in one pass over (value, index) pairs -/

/-- `a` comes before `b`: a smaller value, or the same value at an index no greater. -/
def Before (a b : EReal × BitVec 32) : Prop := a.1 < b.1 ∨ (a.1 = b.1 ∧ a.2.toInt ≤ b.2.toInt)

theorem before_refl (a : EReal × BitVec 32) : Before a a := Or.inr ⟨rfl, le_rfl⟩

theorem before_trans {a b c : EReal × BitVec 32} (h : Before a b) (h' : Before b c) : Before a c := by
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

/-- A left fold of an operation that returns one of its two operands, before or level with both: it is one of the
    values folded (or the initial one), before or level with all of them. -/
theorem foldl_select (f : EReal × BitVec 32 → EReal × BitVec 32 → EReal × BitVec 32)
    (hsel : ∀ a b, (f a b = a ∧ Before a b) ∨ (f a b = b ∧ Before b a)) (l : List (EReal × BitVec 32))
    (b : EReal × BitVec 32) :
    (l.foldl f b = b ∨ l.foldl f b ∈ l) ∧ Before (l.foldl f b) b ∧ ∀ q ∈ l, Before (l.foldl f b) q := by
  induction l generalizing b with
  | nil => exact ⟨Or.inl rfl, before_refl _, by simp⟩
  | cons a l ih =>
    obtain ⟨h1, h2, h3⟩ := ih (f b a)
    rw [List.foldl_cons]
    have hba : Before (f b a) b ∧ Before (f b a) a ∧ (f b a = b ∨ f b a = a) := by
      rcases hsel b a with ⟨h, h'⟩ | ⟨h, h'⟩ <;> rw [h]
      · exact ⟨before_refl _, h', Or.inl rfl⟩
      · exact ⟨h', before_refl _, Or.inr rfl⟩
    refine ⟨?_, before_trans h2 hba.1, fun q hq => ?_⟩
    · rcases h1 with h1 | h1
      · rcases hba.2.2 with h | h
        · exact Or.inl (h1.trans h)
        · exact Or.inr (by rw [h1, h]; exact List.mem_cons_self)
      · exact Or.inr (List.mem_cons_of_mem _ h1)
    · rcases List.mem_cons.mp hq with rfl | hq
      · exact before_trans h2 hba.2.1
      · exact h3 q hq

/-- The reference's comparison of two (value, index) pairs returns the one that comes before. -/
theorem reducer_select (a b : EReal × BitVec 32) :
    (Cert.ReferenceIdeal.reducer_argmin_f32_i32 (F := Ideal) a b = a ∧ Before a b)
      ∨ (Cert.ReferenceIdeal.reducer_argmin_f32_i32 (F := Ideal) a b = b ∧ Before b a) := by
  obtain ⟨a1, a2⟩ := a
  obtain ⟨b1, b2⟩ := b
  rcases lt_trichotomy a1 b1 with h | h | h
  · refine Or.inl ⟨?_, Or.inl h⟩
    simp [Cert.ReferenceIdeal.reducer_argmin_f32_i32, Ideal.cmpf_def, Ideal.cmp, h, h.ne, IntOp.ori, IntOp.andi, Scalar.select]
  · subst h
    by_cases h2 : a2.toInt < b2.toInt
    · refine Or.inl ⟨?_, Or.inr ⟨rfl, h2.le⟩⟩
      have h3 : a2.slt b2 = true := by simpa [BitVec.slt] using h2
      simp [Cert.ReferenceIdeal.reducer_argmin_f32_i32, Ideal.cmpf_def, Ideal.cmp, h3, IntOp.ori, IntOp.andi, Scalar.select, IntOp.cmpi]
    · refine Or.inr ⟨?_, Or.inr ⟨rfl, by simpa using h2⟩⟩
      have h3 : a2.slt b2 = false := by simpa [BitVec.slt] using h2
      simp [Cert.ReferenceIdeal.reducer_argmin_f32_i32, Ideal.cmpf_def, Ideal.cmp, h3, IntOp.ori, IntOp.andi, Scalar.select, IntOp.cmpi]
  · refine Or.inr ⟨?_, Or.inl h⟩
    simp [Cert.ReferenceIdeal.reducer_argmin_f32_i32, Ideal.cmpf_def, Ideal.cmp, h.not_gt, h.ne', IntOp.ori, IntOp.andi, Scalar.select]

/-- The one-pass search over any list that holds exactly the pairs (value, index), from (+∞, 0), ends at the first
    least index. -/
theorem foldl_index (d : Fin 1024 → EReal) (l : List (EReal × BitVec 32))
    (hl : ∀ q, q ∈ l ↔ ∃ k : Fin 1024, q = (d k, BitVec.ofNat 32 (k : ℕ))) :
    (l.foldl (Cert.ReferenceIdeal.reducer_argmin_f32_i32 (F := Ideal)) (⊤, 0#32)).2 = BitVec.ofNat 32 (best d : ℕ) := by
  obtain ⟨h1, -, h3⟩ := foldl_select _ reducer_select l (⊤, 0#32)
  have hb := h3 (d (best d), BitVec.ofNat 32 (best d : ℕ)) ((hl _).mpr ⟨_, rfl⟩)
  have hB := (best d).isLt
  have hzero : (0#32 : BitVec 32).toInt = 0 := by decide
  rcases h1 with h1 | h1
  · rw [h1] at hb ⊢
    rcases hb with hb | ⟨hb, -⟩
    · exact absurd hb not_top_lt
    · have := Fin.le_def.mp (best_first d 0 (le_top.trans_eq hb))
      simp only [Fin.val_zero] at this
      rw [show (best d : ℕ) = 0 by omega]
  · obtain ⟨k, hk⟩ := (hl _).mp h1
    rw [hk] at hb ⊢
    have hkl := k.isLt
    rcases hb with hb | ⟨hb, hb2⟩
    · exact absurd hb (not_lt.mpr (best_le d k))
    · have := Fin.le_def.mp (best_first d k (le_of_eq hb))
      simp only at hb2
      rw [toInt_small _ (by omega), toInt_small _ (by omega)] at hb2
      rw [show (k : ℕ) = best d by omega]

/-- The reference's search along the rows of an array `d` whose companion array `y` holds the numbers of the lanes:
    at row `n`, the first least index. -/
theorem search_row {N : ℕ} {u : Shape} (d : FVec Ideal ⟨2, ![N, 1024]⟩ .f32) (y : IVec ⟨2, ![N, 1024]⟩ 32)
    (hy : ∀ (n : Fin N) (k : Fin 1024), y (ix2 n k) = BitVec.ofNat 32 (k : ℕ)) (ix : FVec Ideal u .f32) (hix : ∀ j, ix j = ⊤)
    (iy : IVec u 32) (hiy : ∀ j, iy j = 0#32) (h : Shape.ReducesTo ⟨2, ![N, 1024]⟩ [1] ⟨1, ![N]⟩) (hu : 0 < u.numel) (n : Fin N) :
    (Host.argReduce (Cert.ReferenceIdeal.reducer_argmin_f32_i32 (F := Ideal)) d y ix iy h hu (ix1 n)).2
      = BitVec.ofNat 32 (best fun k => d (ix2 n k) : ℕ) := by
  rw [Ideal.argReduce_eq_reduce2, Host.reduce2_eq_foldl_fiber, hix, hiy]
  refine foldl_index _ _ fun q => ?_
  simp only [Host.argReduceFiber, List.mem_map, List.mem_filter, List.mem_finRange, true_and, decide_eq_true_eq, h.fiber_r2_a1]
  constructor
  · rintro ⟨a, ⟨k, hk⟩, rfl⟩
    refine ⟨k, ?_⟩
    rw [← hk]
    exact Prod.ext rfl (hy _ _)
  · rintro ⟨k, rfl⟩
    refine ⟨(Shape.rowMajor _) (ix2 n k), ⟨k, ?_⟩, ?_⟩
    · rw [Equiv.symm_apply_apply]; rfl
    · rw [Equiv.symm_apply_apply, hy]

/-- The whole search, as an array. -/
theorem search_rows {N : ℕ} {u : Shape} (d : FVec Ideal ⟨2, ![N, 1024]⟩ .f32) (y : IVec ⟨2, ![N, 1024]⟩ 32)
    (hy : ∀ (n : Fin N) (k : Fin 1024), y (ix2 n k) = BitVec.ofNat 32 (k : ℕ)) (ix : FVec Ideal u .f32) (hix : ∀ j, ix j = ⊤)
    (iy : IVec u 32) (hiy : ∀ j, iy j = 0#32) (h : Shape.ReducesTo ⟨2, ![N, 1024]⟩ [1] ⟨1, ![N]⟩) (hu : 0 < u.numel) :
    (fun j => (Host.argReduce (Cert.ReferenceIdeal.reducer_argmin_f32_i32 (F := Ideal)) d y ix iy h hu j).2)
      = fun j => BitVec.ofNat 32 (best fun k => d (ix2 (j 0) k) : ℕ) := by
  funext j
  rw [eq_ix1 j]
  exact search_row d y hy ix hix iy hiy h hu (j 0)

/-! ## The one-hot sum -/

/-- Summing the rows with weight one at index `i` and zero elsewhere leaves row `i`. -/
theorem oneHot_sum (i : Fin 1024) (e : Fin 1024 → EReal) :
    (∑ k : Fin 1024, (FloatOps.sitofp (F := Ideal) .f32
        (BitVec.setWidth 32 (IntOp.cmpi .eq (BitVec.ofNat 32 (k : ℕ)) (BitVec.ofNat 32 (i : ℕ)))) : EReal) * e k) = e i := by
  have hone : (FloatOps.sitofp (F := Ideal) .f32 (BitVec.setWidth 32 1#1) : EReal) = 1 := by
    simp [FloatOps.sitofp]
  have hz : (FloatOps.sitofp (F := Ideal) .f32 (BitVec.setWidth 32 0#1) : EReal) = 0 := by
    simp [FloatOps.sitofp]
  rw [Finset.sum_eq_single i]
  · rw [show IntOp.cmpi .eq (BitVec.ofNat 32 (i : ℕ)) (BitVec.ofNat 32 (i : ℕ)) = 1#1 by simp [IntOp.cmpi], hone, one_mul]
  · intro k _ hk
    have hne : (BitVec.ofNat 32 (k : ℕ)) ≠ BitVec.ofNat 32 (i : ℕ) := fun h => by
      have := congrArg BitVec.toNat h
      rw [BitVec.toNat_ofNat, BitVec.toNat_ofNat] at this
      have := k.isLt; have := i.isLt
      exact hk (Fin.ext (by omega))
    rw [show IntOp.cmpi .eq (BitVec.ofNat 32 (k : ℕ)) (BitVec.ofNat 32 (i : ℕ)) = 0#1 by simp only [IntOp.cmpi, beq_eq_false_iff_ne.mpr hne, BitVec.ofBool_false]; rfl, hz, zero_mul]
  · intro h; exact absurd (Finset.mem_univ _) h

/-! ## The distance to a row of the codebook -/

/-- The distance from the vector `x` to each of the 1024 rows `e`, as both programs compute it:
    `√(max (‖x‖² + ‖e k‖² - 2 ⟨x, e k⟩) 0)`. -/
def dist (x : Fin 64 → EReal) (e : Fin 1024 → Fin 64 → EReal) (k : Fin 1024) : EReal :=
  Ideal.sqrt (max ((∑ l, x l * x l) + (∑ l, e k l * e k l) - Ideal.ofBits .f32 1073741824#32 * ∑ l, x l * e k l) 0)

/-- The number of the row of `e` nearest to `x`, the first on a tie. -/
def near (x : Fin 64 → EReal) (e : Fin 1024 → Fin 64 → EReal) : Fin 1024 := best (dist x e)

/-- The word of +∞. -/
theorem ofBits_inf : Ideal.ofBits .f32 2139095040#32 = ⊤ := by simp [Ideal.ofBits, Ideal.ieee]

end Cert.Nearest

end
-- ==== Proof.Block.lean ====
/- What the kernel computes for one sub-block of 512 rows: at each row the index of the nearest row of the codebook,
   that row, and over the sub-block the sum of the squared differences. The kernel's body states these computations
   eight times over, once per sub-block, cut into named pieces at differing places; each of them is one of the three
   functions here. -/
module

public import proofs.«01_k».proof.Proof.Nearest
public import proofs.«01_k».proof.Proof.Gen.KernelIdeal.Skeleton
public import Idealize.ShloMosaic.Lib.Pointwise

@[expose] public section

set_option maxRecDepth 16384

noncomputable section

namespace Cert.Block

open Idealize.ShloMosaic Idealize.ShloMosaic.TcCoe Idealize.SL.Sem
open Cert.KernelIdeal Cert.KernelIdeal.Gen Cert.Nearest

variable (e : Vec Ideal S1024x64 .f32) (et : Vec Ideal S64x1024 .f32) (x : Vec Ideal S512x64 .f32)

/-- The indices of one sub-block `x`: the codebook is `e`, its transpose `et`. -/
def idx : IVec S512x1 32 := k0_pay6 (F := Ideal) e et x

/-- The chosen rows of one sub-block. -/
def quant : FVec Ideal S512x64 .f32 := k0_pay7 (F := Ideal) e et x

/-- The lane numbers `0 … 1023` of every row, as the body states them once for all sub-blocks. -/
abbrev lanes : IVec S512x1024 32 := iota .tc S512x1024 32 [1] iota_S512x1024_d1_w32

/-- The sum of squared differences of one sub-block. -/
def total : EReal := extractAt ![0, 0, 0] (k0_pay13 (F := Ideal) e (k0_pay4 et) lanes x) inpos_S1x1x1_p0_0_0

/-- Row `r` of a sub-block. -/
def row (r : Fin 512) : Fin 64 → EReal := fun l => x (ix2 r l)

/-- The rows of the codebook. -/
def book : Fin 1024 → Fin 64 → EReal := fun k l => e (ix2 k l)

/-- At row `r` the kernel's index is the number of the nearest row of the codebook. -/
theorem idx_at (het : ∀ k l, et (ix2 l k) = e (ix2 k l)) (r : Fin 512) :
    idx e et x (ix2 r 0) = BitVec.ofNat 32 (near (row x r) (book e) : ℕ) := by
  unfold near
  refine Eq.trans ?_ (search_eq (dist (row x r) (book e)))
  pointwise [idx, k0_pay6, k0_pay5, k0_pay4, het]
  rw [ofBits_inf]
  rfl

/-- At row `r` the kernel's row is the nearest row of the codebook. -/
theorem quant_at (het : ∀ k l, et (ix2 l k) = e (ix2 k l)) (r : Fin 512) (l : Fin 64) :
    quant e et x (ix2 r l) = e (ix2 (near (row x r) (book e)) l) := by
  have h : k0_pay6 (F := Ideal) e et x (ix2 r 0) = _ := idx_at e et x het r
  pointwise [quant, k0_pay7]
  rw [h]
  exact oneHot_sum _ fun k => e (ix2 k l)

/-- The kernel's partial sum is the sum over the sub-block of the squared differences. -/
theorem total_eq (het : ∀ k l, et (ix2 l k) = e (ix2 k l)) :
    total e et x = ∑ r : Fin 512, ∑ l : Fin 64, (e (ix2 (near (row x r) (book e)) l) - x (ix2 r l)) * (e (ix2 (near (row x r) (book e)) l) - x (ix2 r l)) := by
  have h : ∀ r l, k0_pay12 (F := Ideal) e (k0_pay4 et) lanes x (ix2 r l) = _ := quant_at e et x het
  pointwise [total, k0_pay13, k0_pay10]
  simp only [h]

/-! ## The eight sub-blocks are these functions -/

theorem idx0 : k0_pay6 (F := Ideal) e et x = idx e et x := rfl
theorem idx1 : k0_pay11 (F := Ideal) e (k0_pay4 et) lanes x = idx e et x := rfl
theorem idx2 : k0_pay15 (F := Ideal) e (k0_pay4 et) lanes x = idx e et x := rfl
theorem idx3 : k0_pay19 (F := Ideal) e (k0_pay4 et) lanes (k0_pay18 x) = idx e et x := rfl
theorem idx4 : k0_pay25 (F := Ideal) (k0_pay4 et) lanes (k0_pay23 e x) (k0_pay24 x) = idx e et x := rfl
theorem idx5 : k0_pay31 (F := Ideal) lanes (k0_pay29 (k0_pay4 et) x) (k0_pay30 e x) = idx e et x := rfl
theorem idx6 : k0_pay36 (F := Ideal) lanes (k0_pay35 e (k0_pay4 et) x) = idx e et x := rfl
theorem idx7 : k0_pay1 lanes (k0_pay40 (F := Ideal) e (k0_pay4 et) x) k0_pay41 = idx e et x := rfl

theorem quant0 : k0_pay7 (F := Ideal) e et x = quant e et x := rfl
theorem quant1 : k0_pay12 (F := Ideal) e (k0_pay4 et) lanes x = quant e et x := rfl
theorem quant2 : k0_pay16 (F := Ideal) e (k0_pay4 et) lanes x = quant e et x := rfl
theorem quant3 : k0_pay20 (F := Ideal) e (k0_pay4 et) lanes (k0_pay18 x) = quant e et x := rfl
theorem quant4 : k0_pay26 (F := Ideal) e (k0_pay4 et) lanes (k0_pay23 e x) (k0_pay24 x) = quant e et x := rfl
theorem quant5 : k0_pay32 (F := Ideal) e lanes (k0_pay29 (k0_pay4 et) x) (k0_pay30 e x) = quant e et x := rfl
theorem quant6 : k0_pay37 (F := Ideal) e lanes (k0_pay35 e (k0_pay4 et) x) = quant e et x := rfl
theorem quant7 : k0_pay2 (F := Ideal) e lanes (k0_pay40 e (k0_pay4 et) x) k0_pay41 = quant e et x := rfl

/-- One run of the body adds to the accumulator `a` the partial sums of its eight sub-blocks. -/
theorem accumulate (x0 x1 x2 x3 x4 x5 x6 x7 : Vec Ideal S512x64 .f32) (a : EReal) :
    k0_pay3 (F := Ideal) e lanes
      (k0_pay38 e lanes
        (k0_pay33 e lanes
          (k0_pay27 e (k0_pay4 et) lanes
            (k0_pay21 e (k0_pay4 et) lanes
              (k0_pay17 e (k0_pay4 et) lanes (k0_pay9 (k0_pay8 e et x0)) (k0_pay13 e (k0_pay4 et) lanes x1) x2)
              (k0_pay18 x3))
            (k0_pay22 x4) (k0_pay23 e x4) (k0_pay24 x4))
          (k0_pay28 x5) (k0_pay29 (k0_pay4 et) x5) (k0_pay30 e x5))
        (k0_pay34 x6) (k0_pay35 e (k0_pay4 et) x6))
      (k0_pay39 x7) (k0_pay40 e (k0_pay4 et) x7) k0_pay41 a
    = a + (total e et x0 + total e et x1 + total e et x2 + total e et x3 + total e et x4 + total e et x5
        + total e et x6 + total e et x7) := by
  refine Eq.trans (b := a + (Ideal.ofBits .f32 0x00000000#32 + total e et x0 + total e et x1 + total e et x2
    + total e et x3 + total e et x4 + total e et x5 + total e et x6 + total e et x7)) rfl ?_
  rw [Ideal.ofBits_zero_f32, zero_add]

end Cert.Block

end
-- ==== Proof.Arrays.lean ====
/- What the kernel's three result arrays hold after the last grid point, as functions of the two argument arrays: for
   every vector the nearest row of the codebook, its number, and the sum of all squared differences. -/
module

public import proofs.«01_k».proof.Proof.Block
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.Arrays

open Idealize.ShloMosaic Idealize.ShloMosaic.TcCoe Idealize.SL.Sem
open Cert.KernelIdeal Cert.KernelIdeal.Gen Cert.Nearest Cert.Block
open Idealize.ShloMosaic.Pipeline (Dat)

/-! ## The arrays, as functions of the arguments -/

/-- The inputs as 32768 vectors of 64 channels, the channel axis last. -/
def rows (X : Vec Ideal S4x64x8x32x32 .f32) : Vec Ideal S32768x64 .f32 :=
  shapeCast S32768x64 (transpose S4x8x32x32x64 [0, 2, 3, 4, 1] X transposes_S4x64x8x32x32_S4x8x32x32x64_0_2_3_4_1)
    shapeCasts_S4x8x32x32x64_S32768x64

/-- Vector `n`. -/
def vec (X : Vec Ideal S4x64x8x32x32 .f32) (n : Fin 32768) : Fin 64 → EReal := fun l => rows X (ix2 n l)

/-- The number of the row of the codebook `E` nearest to vector `n`. -/
def code (X : Vec Ideal S4x64x8x32x32 .f32) (E : Vec Ideal S1024x64 .f32) (n : Fin 32768) : Fin 1024 := near (vec X n) (book E)

/-- The chosen rows. -/
def quantArr (X : Vec Ideal S4x64x8x32x32 .f32) (E : Vec Ideal S1024x64 .f32) : Vec Ideal S32768x64 .f32 :=
  fun j => E (ix2 (code X E (j 0)) (j 1))

/-- The chosen numbers. -/
def idxArr (X : Vec Ideal S4x64x8x32x32 .f32) (E : Vec Ideal S1024x64 .f32) : Vec Ideal S32768x1 .i32 :=
  fun j => BitVec.ofNat 32 (code X E (j 0) : ℕ)

/-- The squared difference at vector `n` and channel `l`. -/
def sqDiff (X : Vec Ideal S4x64x8x32x32 .f32) (E : Vec Ideal S1024x64 .f32) (n : Fin 32768) (l : Fin 64) : EReal :=
  (E (ix2 (code X E n) l) - rows X (ix2 n l)) * (E (ix2 (code X E n) l) - rows X (ix2 n l))

/-- The sum of all squared differences. -/
def lossSum (X : Vec Ideal S4x64x8x32x32 .f32) (E : Vec Ideal S1024x64 .f32) : EReal := ∑ n : Fin 32768, ∑ l : Fin 64, sqDiff X E n l

/-! ## The blocks the body reads -/

section
variable (m : (ℓ : Loc nD τ sig) → Buf (Elt Ideal) ℓ) (c : Dev nD)

/-- The two arguments. -/
abbrev argX : Vec Ideal S4x64x8x32x32 .f32 := m ((c : Thread nD τ).loc main_arg0)
abbrev argE : Vec Ideal S1024x64 .f32 := m ((c : Thread nD τ).loc main_arg1)

/-- The windows' index maps, at every point. -/
theorem index_maps : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, 0] :=
  (by decide +kernel : ∀ t : Fin grid0.N, _)

/-- The region finds the rearranged inputs in its first operand. -/
theorem entry_rows : (V m c main_v1 : Vec Ideal S32768x64 .f32) = rows (argX m c) := by
  entry_read
  rfl

/-- The region finds the transposed codebook in its third operand. -/
theorem entry_book : (V m c main_v2 : Vec Ideal S64x1024 .f32) = transpose S64x1024 [1, 0] (argE m c) transposes_S1024x64_S64x1024_1_0 := by
  entry_read
  rfl

variable (t : Fin cfg0.N)

/-- Row `r` of the block staged at point `t` is vector `4096 t + r`. -/
theorem iblk0_at (r : Fin 4096) (l : Fin 64) (n : Fin 32768) (hn : (n : ℕ) = t.val * 4096 + r) :
    (iblk m c 0 t : Vec Ideal S4096x64 .f32) (ix2 r l) = rows (argX m c) (ix2 n l) := by
  rw [← entry_rows]
  blk_ext [iblk, index_maps t]

/-- The codebook is staged whole at every point. -/
theorem iblk1_at (k : Fin 1024) (l : Fin 64) :
    (iblk m c 1 t : Vec Ideal S1024x64 .f32) (ix2 k l) = argE m c (ix2 k l) := by
  blk_ext [iblk, V, index_maps t]

/-- The transposed codebook is staged whole at every point. -/
theorem iblk2_at (k : Fin 1024) (l : Fin 64) :
    (iblk m c 2 t : Vec Ideal S64x1024 .f32) (ix2 l k) = (iblk m c 1 t : Vec Ideal S1024x64 .f32) (ix2 k l) := by
  rw [iblk1_at]
  refine Eq.trans (b := (V m c main_v2 : Vec Ideal S64x1024 .f32) (ix2 l k)) ?_ ?_
  · blk_ext [iblk, index_maps t]
  · rw [entry_book]
    pointwise

/-! ## The sub-blocks at point `t` -/

/-- The codebook staged at a point is the argument's. -/
theorem book_eq : book (iblk m c 1 t) = book (argE m c) := funext fun k => funext fun l => iblk1_at m c t k l

/-- Row `r` of a sub-block `x` whose rows lie from row `o` of the staged block: the vector it is. -/
theorem row_eq (x : Vec Ideal S512x64 .f32) (o : ℕ) (r : Fin 512) (n : Fin 32768) (hn : (n : ℕ) = t.val * 4096 + o + r)
    (hx : ∀ l : Fin 64, ∃ h : o + r < 4096, x (ix2 r l) = (iblk m c 0 t : Vec Ideal S4096x64 .f32) (ix2 ⟨o + r, h⟩ l)) :
    row x r = vec (argX m c) n := by
  funext l
  obtain ⟨h, e⟩ := hx l
  exact e.trans (iblk0_at m c t _ l n (by rw [hn]; simp only; omega))

/-- What a sub-block's rows of the result are. -/
theorem quant_piece (x : Vec Ideal S512x64 .f32) (o : ℕ) (r : Fin 512) (l : Fin 64) (n : Fin 32768) (hn : (n : ℕ) = t.val * 4096 + o + r)
    (hx : ∀ l : Fin 64, ∃ h : o + r < 4096, x (ix2 r l) = (iblk m c 0 t : Vec Ideal S4096x64 .f32) (ix2 ⟨o + r, h⟩ l)) :
    quant (iblk m c 1 t) (iblk m c 2 t) x (ix2 r l) = argE m c (ix2 (code (argX m c) (argE m c) n) l) := by
  rw [quant_at _ _ _ (iblk2_at m c t), row_eq m c t x o r n hn hx, book_eq]
  exact iblk1_at m c t _ _

/-- What a sub-block's indices are. -/
theorem idx_piece (x : Vec Ideal S512x64 .f32) (o : ℕ) (r : Fin 512) (n : Fin 32768) (hn : (n : ℕ) = t.val * 4096 + o + r)
    (hx : ∀ l : Fin 64, ∃ h : o + r < 4096, x (ix2 r l) = (iblk m c 0 t : Vec Ideal S4096x64 .f32) (ix2 ⟨o + r, h⟩ l)) :
    idx (iblk m c 1 t) (iblk m c 2 t) x (ix2 r 0) = BitVec.ofNat 32 (code (argX m c) (argE m c) n : ℕ) := by
  rw [idx_at _ _ _ (iblk2_at m c t), row_eq m c t x o r n hn hx, book_eq]
  rfl

/-- What a sub-block adds to the loss. -/
theorem total_piece (x : Vec Ideal S512x64 .f32) (o : ℕ) (ho : t.val * 4096 + o + 512 ≤ 32768)
    (hx : ∀ (r : Fin 512) (l : Fin 64), ∃ h : o + r < 4096, x (ix2 r l) = (iblk m c 0 t : Vec Ideal S4096x64 .f32) (ix2 ⟨o + r, h⟩ l)) :
    total (iblk m c 1 t) (iblk m c 2 t) x = ∑ r : Fin 512, ∑ l : Fin 64, sqDiff (argX m c) (argE m c) ⟨t.val * 4096 + o + r, by omega⟩ l := by
  rw [total_eq _ _ _ (iblk2_at m c t)]
  refine Finset.sum_congr rfl fun r _ => Finset.sum_congr rfl fun l _ => ?_
  have hr : row x r = vec (argX m c) ⟨t.val * 4096 + o + r, by omega⟩ := row_eq m c t x o r _ rfl (hx r)
  have hl : x (ix2 r l) = rows (argX m c) (ix2 ⟨t.val * 4096 + o + r, by omega⟩ l) := congrFun hr l
  rw [hr, book_eq, hl, iblk1_at]
  rfl

/-! ## What the body leaves at point `t` -/

/-- The block of chosen rows, in either case of the body. -/
theorem point3 (y : S4096x64.Idx) (n : Fin 32768) (hn : (n : ℕ) = t.val * 4096 + y 0) (k : Fin 64) (hk : (y 1 : ℕ) = k) :
    (outsAt0 m c t.val t.isLt).1 y = argE m c (ix2 (code (argX m c) (argE m c) n) k) := by
  by_cases hc : t.val % 8 = 0
  on_goal 1 => rw [outsAt0_A m c t hc]
  on_goal 2 => rw [outsAt0_B m c t hc]
  all_goals
    frame_out
    canon_tiles x h
  all_goals
    idx_vars x
    first | rw [quant0] | rw [quant1] | rw [quant2] | rw [quant3] | rw [quant4] | rw [quant5] | rw [quant6] | rw [quant7]
    rw [show k = x1 from Fin.ext (hk.symm.trans h1)]
    first
    | refine quant_piece m c t _ _ x0 x1 n (by rw [hn, h0, Nat.add_assoc]) fun l => ⟨by omega, ?_⟩
    | refine quant_piece m c t _ 0 x0 x1 n (hn.trans (congrArg (t.val * 4096 + ·) h0)) fun l => ⟨by omega, ?_⟩
    pointwise

/-- The block of indices, in either case of the body. -/
theorem point4 (y : S4096x1.Idx) (n : Fin 32768) (hn : (n : ℕ) = t.val * 4096 + y 0) :
    (outsAt0 m c t.val t.isLt).2.1 y = BitVec.ofNat 32 (code (argX m c) (argE m c) n : ℕ) := by
  by_cases hc : t.val % 8 = 0
  on_goal 1 => rw [outsAt0_A m c t hc]
  on_goal 2 => rw [outsAt0_B m c t hc]
  all_goals
    frame_out
    canon_tiles x h
  all_goals
    idx_vars x
    first | rw [idx0] | rw [idx1] | rw [idx2] | rw [idx3] | rw [idx4] | rw [idx5] | rw [idx6] | rw [idx7]
    rw [show x1 = 0 from Subsingleton.elim _ _]
    first
    | refine idx_piece m c t _ _ x0 n (by rw [hn, h0, Nat.add_assoc]) fun l => ⟨by omega, ?_⟩
    | refine idx_piece m c t _ 0 x0 n (hn.trans (congrArg (t.val * 4096 + ·) h0)) fun l => ⟨by omega, ?_⟩
    pointwise

/-- Block `x` of 512 rows lies from row `o` of the block staged at point `t`. -/
def IsSub (x : Vec Ideal S512x64 .f32) (o : ℕ) : Prop :=
  ∀ (r : Fin 512) (l : Fin 64), ∃ h : o + r < 4096, x (ix2 r l) = (iblk m c 0 t : Vec Ideal S4096x64 .f32) (ix2 ⟨o + r, h⟩ l)

/-- The squared differences of the 4096 vectors of point `t`. -/
def part : EReal :=
  ∑ r : Fin 4096, ∑ l : Fin 64, sqDiff (argX m c) (argE m c) ⟨t.val * 4096 + r, by have := lt_of_lt_of_eq t.isLt N_0; omega⟩ l

/-- The eight sub-blocks of a point make up the point's squared differences. -/
theorem part_eq (x0 x1 x2 x3 x4 x5 x6 x7 : Vec Ideal S512x64 .f32)
    (hx0 : IsSub m c t x0 0)
    (hx1 : IsSub m c t x1 512)
    (hx2 : IsSub m c t x2 1024)
    (hx3 : IsSub m c t x3 1536)
    (hx4 : IsSub m c t x4 2048)
    (hx5 : IsSub m c t x5 2560)
    (hx6 : IsSub m c t x6 3072)
    (hx7 : IsSub m c t x7 3584) :
    total (iblk m c 1 t) (iblk m c 2 t) x0 + total (iblk m c 1 t) (iblk m c 2 t) x1 + total (iblk m c 1 t) (iblk m c 2 t) x2
      + total (iblk m c 1 t) (iblk m c 2 t) x3 + total (iblk m c 1 t) (iblk m c 2 t) x4 + total (iblk m c 1 t) (iblk m c 2 t) x5
      + total (iblk m c 1 t) (iblk m c 2 t) x6 + total (iblk m c 1 t) (iblk m c 2 t) x7 = part m c t := by
  have hN : t.val < 8 := lt_of_lt_of_eq t.isLt N_0
  have key (p : Fin 8) (x : Vec Ideal S512x64 .f32) (hx : IsSub m c t x (p.val * 512)) :
      total (iblk m c 1 t) (iblk m c 2 t) x
        = ∑ r : Fin 512, ∑ l : Fin 64, sqDiff (argX m c) (argE m c) ⟨t.val * 4096 + (p.val * 512 + r), by omega⟩ l := by
    rw [total_piece m c t x (p.val * 512) (by omega) hx]
    simp only [Nat.add_assoc]
  rw [part, Fin.sum_univ_tiles 8 512 rfl, Fin.sum_univ_eight, key 0 x0 hx0, key 1 x1 hx1, key 2 x2 hx2, key 3 x3 hx3,
    key 4 x4 hx4, key 5 x5 hx5, key 6 x6 hx6, key 7 x7 hx7]

/-- The first point leaves its own squared differences. -/
theorem reset5 (h : t.val % 8 = 0) (y : S1x1.Idx) : (outsAt0 m c t.val t.isLt).2.2 y = (0 : EReal) + part m c t := by
  rw [outsAt0_A m c t h]
  frame_out
  rw [accumulate]
  refine congrArg₂ (· + ·) Ideal.ofBits_zero_f32 (part_eq m c t _ _ _ _ _ _ _ _ ?_ ?_ ?_ ?_ ?_ ?_ ?_ ?_)
  all_goals
    intro r l
    refine ⟨by omega, ?_⟩
    pointwise

/-- Every later point adds its own to what it finds. -/
theorem step5 (h : ¬t.val % 8 = 0) (y : S1x1.Idx) :
    (outsAt0 m c t.val t.isLt).2.2 y
      = (outsAt0 m c (t.val - 1) (Nat.lt_of_le_of_lt (Nat.sub_le _ _) t.isLt)).2.2 y + part m c t := by
  rw [outsAt0_B m c t h]
  frame_out
  rw [accumulate]
  refine congrArg₂ (· + ·) ?_ (part_eq m c t _ _ _ _ _ _ _ _ ?_ ?_ ?_ ?_ ?_ ?_ ?_ ?_)
  · pointwise
    idx_vars y
    rw [show y0 = 0 from Subsingleton.elim _ _, show y1 = 0 from Subsingleton.elim _ _]
  all_goals
    intro r l
    refine ⟨by omega, ?_⟩
    pointwise

/-! ## The result arrays after the last point -/

/-- The array of chosen rows. -/
theorem final3 : (dats m 0 c).arrAt 3 (cfgs 0).N = quantArr (argX m c) (argE m c) := by
  refine (dats m 0 c).arrAt_eq_of_covers 3 _ (by decide +kernel) fun t hf y => ?_
  blk_simp
  rw [after0_3]
  refine (point3 m c t y _ ?_ _ ?_).trans rfl
  all_goals blk_simp [index_maps t]

/-- The array of chosen numbers. -/
theorem final4 : (dats m 0 c).arrAt 4 (cfgs 0).N = idxArr (argX m c) (argE m c) := by
  refine (dats m 0 c).arrAt_eq_of_covers 4 _ (by decide +kernel) fun t hf y => ?_
  blk_simp
  rw [after0_4]
  refine (point4 m c t y _ ?_).trans rfl
  all_goals blk_simp [index_maps t]

/-- The loss accumulator. -/
theorem final5 : (dats m 0 c).arrAt 5 (cfgs 0).N = fun _ => lossSum (argX m c) (argE m c) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0) (fun t _ => part m c t)
    (fun t h y => reset5 m c t h y) (fun t h y => step5 m c t h y) (le_of_eq N_0) t0_7 rfl j, zero_add, lossSum,
    Fin.sum_univ_tiles 8 4096 rfl]
  rfl

end

end Cert.Arrays

end
-- ==== Proof.Reference.lean ====
/- What the reference computes, in stages, as functions of its two arguments; and the same stages in closed form: the
   distances, the number of the nearest row, the chosen rows, the sum of all squared differences. -/
module

public import proofs.«01_k».proof.Proof.Arrays
public import proofs.«01_k».proof.Proof.Gen.ReferenceIdeal
public import Idealize.ShloMosaic.Lib.Routing.Ops

@[expose] public section

set_option maxRecDepth 16384

noncomputable section

namespace Cert.Reference

open Idealize.ShloMosaic Idealize.ShloMosaic.TcCoe Idealize.SL.Sem
open Cert.ReferenceIdeal Cert.Nearest Cert.Block Cert.Arrays

attribute [local instance] Cert.ReferenceIdeal.Gen.facts

open Cert.ReferenceIdeal.Facts₀ Cert.ReferenceIdeal.Facts

section
variable (X : FVec Ideal S4x64x8x32x32 .f32) (E : FVec Ideal S1024x64 .f32)

/-! ## The stages -/

/-- The distances from every vector to every row of the codebook. -/
def distArr : FVec Ideal S32768x1024 .f32 :=
  Host.sqrt (maximumf
    (subf
      (addf
        (broadcastInDim S32768x1024 ![0, 1] bcast_S32768x1_S32768x1024_0_1
          (broadcastInDim S32768x1 ![0] bcast_S32768_S32768x1_0
            (Host.reduceAdd (mulf (rows X) (rows X)) (constant (F := Ideal) S_ .f32 0x00000000#32) reducesTo_S32768x64_S32768_d1 h_S_)))
        (broadcastInDim S32768x1024 ![0, 1] bcast_S1x1024_S32768x1024_0_1
          (broadcastInDim S1x1024 ![1] bcast_S1024_S1x1024_1
            (Host.reduceAdd (mulf E E) (constant (F := Ideal) S_ .f32 0x00000000#32) reducesTo_S1024x64_S1024_d1 h_S_))))
      (mulf (broadcastInDim S32768x1024 ![] bcast_S_S32768x1024 (constant (F := Ideal) S_ .f32 0x40000000#32))
        (Host.dotGeneral (F := Ideal) (φ₁ := .f32) (φ₂ := .f32) dot_S32768x64_S64x1024_S32768x1024_1_0_0_1_n_n none (rows X)
          (transpose S64x1024 [1, 0] E transposes_S1024x64_S64x1024_1_0))))
    (broadcastInDim S32768x1024 ![] bcast_S_S32768x1024 (constant (F := Ideal) S_ .f32 0x00000000#32)))

/-- The number of the least distance of every vector. -/
def numbers (d : FVec Ideal S32768x1024 .f32) : IVec S32768 32 := fun j => BitVec.ofNat 32 (best fun k => d (ix2 (j 0) k) : ℕ)

/-- The search along the rows finds the number of the least distance of every vector. -/
theorem found_eq (d : FVec Ideal S32768x1024 .f32) :
    (fun j => (Host.argReduce (reducer_argmin_f32_i32 (F := Ideal)) d (iotaInDim S32768x1024 32 1)
      (constant (F := Ideal) S_ .f32 0x7F800000#32) (constantI S_ 32 0#32) reducesTo_S32768x1024_S32768_d1 h_S_ j).2) = numbers d :=
  search_rows d (iotaInDim S32768x1024 32 1) (fun _ _ => rfl) (constant (F := Ideal) S_ .f32 0x7F800000#32)
    (fun _ => ofBits_inf) (constantI S_ 32 0#32) (fun _ => rfl) _ h_S_

/-- The numbers that the reference finds. -/
def refIdx : IVec S32768 32 := numbers (distArr X E)

/-- A number below zero counts from the end of the codebook. -/
def wrapped (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Whether each number is one of the codebook's. -/
def inside (i : IVec S32768 32) : IVec S32768 1 :=
  Host.reduce IntOp.andi
    (andi (cmpi .sge (wrapped i) (broadcastInDim S32768x1 ![] bcast_S_S32768x1 (constantI S_ 32 0#32)))
      (cmpi .sle (wrapped i) (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The rows of the codebook at the numbers `i`. -/
def taken (i : IVec S32768 32) : FVec Ideal S32768x64 .f32 :=
  select (broadcastInDim S32768x64 ![0] bcast_S32768_S32768x64_0 (inside i))
    (Host.gather gather_S1024x64_S32768x1_S32768x64_1_0_n_n_0_1_164 E (wrapped i))
    (broadcastInDim S32768x64 ![] bcast_S_S32768x64 (constant (F := Ideal) S_ .f32 0x7FC00000#32))

/-- An array of vectors laid out as the inputs are. -/
def spread (Q : FVec Ideal S32768x64 .f32) : FVec Ideal S4x64x8x32x32 .f32 :=
  transpose S4x64x8x32x32 [0, 4, 1, 2, 3] (shapeCast S4x8x32x32x64 Q shapeCasts_S32768x64_S4x8x32x32x64)
    transposes_S4x8x32x32x64_S4x64x8x32x32_0_4_1_2_3

/-- The chosen rows `Q` less the inputs. -/
def diffOf (Q : FVec Ideal S32768x64 .f32) : FVec Ideal S4x64x8x32x32 .f32 := subf (spread Q) X

/-- The mean of their squares. -/
def meanOf (Q : FVec Ideal S32768x64 .f32) : FVec Ideal S_ .f32 :=
  Host.divf (Host.reduceAdd (mulf (diffOf X Q) (diffOf X Q)) (constant (F := Ideal) S_ .f32 0x00000000#32)
    reducesTo_S4x64x8x32x32_S_d0_1_2_3_4 h_S_) (constant (F := Ideal) S_ .f32 0x4A000000#32)

/-- The first result, from the chosen rows. -/
def quantOf (Q : FVec Ideal S32768x64 .f32) : FVec Ideal S4x64x8x32x32 .f32 := addf X (diffOf X Q)

/-- The second result, from the chosen rows. -/
def lossOf (Q : FVec Ideal S32768x64 .f32) : FVec Ideal S_ .f32 :=
  addf (meanOf X Q) (mulf (constant (F := Ideal) S_ .f32 0x3E800000#32) (meanOf X Q))

/-- The reference's three results. -/
def outQuant : FVec Ideal S4x64x8x32x32 .f32 := quantOf X (taken E (refIdx X E))
def outLoss : FVec Ideal S_ .f32 := lossOf X (taken E (refIdx X E))
def outIdx : IVec S4x8x32x32 32 := shapeCast S4x8x32x32 (refIdx X E) shapeCasts_S32768_S4x8x32x32

/-! ## The stages in closed form -/

/-- Each distance. -/
theorem dist_at (n : Fin 32768) (k : Fin 1024) : distArr X E (ix2 n k) = dist (vec X n) (book E) k := by
  pointwise [distArr]
  rfl

/-- The numbers found are those of the nearest rows. -/
theorem idx_eq : refIdx X E = fun j => BitVec.ofNat 32 (code X E (j 0) : ℕ) :=
  funext fun j => congrArg (fun b : Fin 1024 => BitVec.ofNat 32 (b : ℕ)) (congrArg best (funext fun k => dist_at X E (j 0) k))

/-- The comparisons of a number of the codebook with its bounds. -/
theorem bounds (k : Fin 1024) : IntOp.cmpi .slt (BitVec.ofNat 32 (k : ℕ)) 0#32 = 0#1
    ∧ IntOp.cmpi .sge (BitVec.ofNat 32 (k : ℕ)) 0#32 = 1#1 ∧ IntOp.cmpi .sle (BitVec.ofNat 32 (k : ℕ)) 1023#32 = 1#1 := by
  have hk := k.isLt
  have h := toInt_small (k : ℕ) (by omega)
  have h0 : (0#32 : BitVec 32).toInt = 0 := by decide
  have h1 : (1023#32 : BitVec 32).toInt = 1023 := by decide
  simp only [IntOp.cmpi, BitVec.slt, BitVec.sle, h, h0, h1]
  refine ⟨?_, ?_, ?_⟩
  · rw [decide_eq_false (by omega)]; rfl
  · rw [decide_eq_true (by omega)]; rfl
  · rw [decide_eq_true (by omega)]; rfl

/-- A number of the codebook is left as it is. -/
theorem wrapped_at (i : IVec S32768 32) (n : Fin 32768) (k : Fin 1024) (h : i (ix1 n) = BitVec.ofNat 32 (k : ℕ)) :
    wrapped i (ix2 n 0) = BitVec.ofNat 32 (k : ℕ) := by
  pointwise [wrapped]
  rw [h, (bounds k).1]
  rfl

/-- And is inside. -/
theorem inside_at (i : IVec S32768 32) (n : Fin 32768) (k : Fin 1024) (h : i (ix1 n) = BitVec.ofNat 32 (k : ℕ)) :
    inside i (ix1 n) = 1#1 := by
  pointwise [inside]
  rw [Finset.fold_congr (g := fun _ => 1#1) fun x _ => by
    rw [show x = 0 from Subsingleton.elim _ _, wrapped_at i n k h, (bounds k).2.1, (bounds k).2.2]; rfl]
  rfl

/-- So its row is taken. -/
theorem taken_at (i : IVec S32768 32) (n : Fin 32768) (l : Fin 64) (k : Fin 1024) (h : i (ix1 n) = BitVec.ofNat 32 (k : ℕ)) :
    taken E i (ix2 n l) = E (ix2 k l) := by
  have hg : Host.gather gather_S1024x64_S32768x1_S32768x64_1_0_n_n_0_1_164 E (wrapped i) (ix2 n l) = E (ix2 k l) :=
    Routing.gather_row _ rfl rfl rfl rfl rfl E (wrapped i) n l k (wrapped_at i n k h) (by decide)
  pointwise [taken]
  rw [inside_at i n k h, hg]
  rfl

/-- The rows taken are the nearest ones. -/
theorem taken_eq : taken E (refIdx X E) = quantArr X E := by
  rw [idx_eq]
  funext j
  rw [eq_ix2 j]
  exact taken_at E _ (j 0) (j 1) (code X E (j 0)) rfl

/-- The inputs' vectors laid out again are the inputs. -/
theorem spread_rows : spread (rows X) = X := by
  funext i
  rw [eq_ix5 i]
  pointwise [spread, rows]

/-- Moving the channels to the second place, read at an index. -/
theorem moved_at (Q : FVec Ideal S4x8x32x32x64 .f32) (b : Fin 4) (l : Fin 64) (t : Fin 8) (u v : Fin 32) :
    transpose S4x64x8x32x32 [0, 4, 1, 2, 3] Q transposes_S4x8x32x32x64_S4x64x8x32x32_0_4_1_2_3 (ix5 b l t u v)
      = Q (ix5 b t u v l) := by
  pointwise

/-- Moving the channels keeps the sum. -/
theorem sum_moved (Q : FVec Ideal S4x8x32x32x64 .f32) :
    (∑ i, transpose S4x64x8x32x32 [0, 4, 1, 2, 3] Q transposes_S4x8x32x32x64_S4x64x8x32x32_0_4_1_2_3 i : EReal) = ∑ j, Q j := by
  rw [sum_idx5, sum_idx5]
  refine Finset.sum_congr rfl fun b _ => ?_
  rw [Finset.sum_comm]
  refine Finset.sum_congr rfl fun t _ => ?_
  rw [Finset.sum_comm]
  refine Finset.sum_congr rfl fun u _ => ?_
  rw [Finset.sum_comm]
  refine Finset.sum_congr rfl fun v _ => ?_
  exact Finset.sum_congr rfl fun l _ => moved_at Q b l t u v

/-- Laying out an array of vectors keeps its sum. -/
theorem sum_spread (Q : FVec Ideal S32768x64 .f32) : (∑ i, spread Q i : EReal) = ∑ n : Fin 32768, ∑ l : Fin 64, Q (ix2 n l) := by
  refine (sum_moved _).trans (Eq.trans ?_ (sum_idx2 Q))
  exact Equiv.sum_comp (Shape.reshapeEquiv shapeCasts_S32768x64_S4x8x32x32x64) Q

/-- The chosen rows less the inputs, over the vectors. -/
theorem diff_eq : diffOf X (quantArr X E) = spread (subf (quantArr X E) (rows X)) :=
  congrArg (subf (F := Ideal) (spread (quantArr X E))) (spread_rows X).symm

/-- The squared differences add up to the kernel's sum. -/
theorem sum_diff : (∑ i, mulf (diffOf X (quantArr X E)) (diffOf X (quantArr X E)) i : EReal) = lossSum X E := by
  rw [diff_eq]
  refine (sum_spread (mulf (subf (quantArr X E) (rows X)) (subf (quantArr X E) (rows X)))).trans ?_
  refine Finset.sum_congr rfl fun n _ => Finset.sum_congr rfl fun l _ => ?_
  rfl

/-- The mean of the squared differences is their sum over their number. -/
theorem mean_eq : meanOf X (quantArr X E) = fun _ => Ideal.div (lossSum X E) (Ideal.ofBits .f32 0x4A000000#32) := by
  funext i
  refine congrArg (fun s => Ideal.div s (Ideal.ofBits .f32 0x4A000000#32)) ?_
  refine (Ideal.hostReduceAdd_total reducesTo_S4x64x8x32x32_S_d0_1_2_3_4 (fun b => b.elim0) _ _ i).trans ?_
  rw [sum_diff]
  exact (congrArg (· + lossSum X E) Ideal.ofBits_zero_f32).trans (zero_add _)

/-- The first result: the inputs plus what leads from them to the chosen rows. -/
theorem quant_eq : outQuant X E = fun i => X i + (spread (quantArr X E) i - X i) := by
  unfold outQuant
  rw [taken_eq]
  rfl

/-- The second result, from the sum of the squared differences. -/
theorem loss_eq : outLoss X E = fun _ => Ideal.div (lossSum X E) (Ideal.ofBits .f32 0x4A000000#32)
    + Ideal.ofBits .f32 0x3E800000#32 * Ideal.div (lossSum X E) (Ideal.ofBits .f32 0x4A000000#32) := by
  unfold outLoss lossOf
  rw [taken_eq, mean_eq]
  rfl

/-- The third result: the numbers of the nearest rows. -/
theorem idx_out_eq : outIdx X E = shapeCast S4x8x32x32 (idxArr X E) (by decide) := by
  unfold outIdx
  rw [idx_eq]
  funext i
  rw [eq_ix4 i]
  pointwise [idxArr]

end

end Cert.Reference

end
-- ==== Proof.Results.lean ====
/-
What the kernel returns.  After the grid has run, the kernel lays the chosen rows out as the inputs are, gives the numbers
of the chosen rows the inputs' shape, and multiplies the sum of the squared differences by a constant.
-/
module

public import proofs.«01_k».proof.Proof.Reference
public import Idealize.ShloMosaic.Lib.Claim
public import Idealize.ShloMosaic.Lib.Pipeline.ValueKit

@[expose] public section

set_option maxRecDepth 16384

noncomputable section

namespace Cert.Results

open Idealize.ShloMosaic Idealize.ShloMosaic.TcCoe Idealize.SL.Sem
open Cert.KernelIdeal Cert.KernelIdeal.Gen Cert.Arrays Cert.Reference

attribute [local instance] Cert.KernelIdeal.Gen.facts Cert.ReferenceIdeal.Gen.facts

variable (m : (ℓ : Loc nD τ sig) → Buf (Elt Ideal) ℓ) (c : Dev nD)

/-- The buffers once the grid has run and before the last lines. -/
abbrev ended :=
  Pipeline.withArrays (cfgs 0).spec c (V0 m c) fun w => (dats m 0 c).arrAt w (cfgs 0).N

/-- The first output's buffer holds the chosen rows. -/
theorem ended3 : ended m c (Proc.devRef .tc main_v3_0) = quantArr (argX m c) (argE m c) :=
  (Pipeline.withArrays_arr spec0 (by decide) c _ _ 3).trans (final3 m c)

/-- The second output's buffer holds their numbers. -/
theorem ended4 : ended m c (Proc.devRef .tc main_v3_1) = idxArr (argX m c) (argE m c) :=
  (Pipeline.withArrays_arr spec0 (by decide) c _ _ 4).trans (final4 m c)

/-- The third output's buffer holds the sum of the squared differences. -/
theorem ended5 : ended m c (Proc.devRef .tc main_v3_2) = fun _ => lossSum (argX m c) (argE m c) :=
  (Pipeline.withArrays_arr spec0 (by decide) c _ _ 5).trans (final5 m c)

/-- The kernel's first result. -/
theorem quant : Pipeline.afterTail₀ cfgs (dats m) 0 (V0 m) [hostOps1] c main_v5 = spread (quantArr (argX m c) (argE m c)) := by
  unfold Pipeline.afterTail₀
  simp only [List.flatten_cons, List.flatten_nil, List.append_nil, hostOps1]
  after_results
  exact congrArg spread (ended3 m c)

/-- The kernel's third result. -/
theorem idx : Pipeline.afterTail₀ cfgs (dats m) 0 (V0 m) [hostOps1] c main_v6
    = shapeCast S4x8x32x32 (idxArr (argX m c) (argE m c)) (by decide) := by
  unfold Pipeline.afterTail₀
  simp only [List.flatten_cons, List.flatten_nil, List.append_nil, hostOps1]
  after_results
  exact congrArg (fun a => shapeCast S4x8x32x32 a (by decide)) (ended4 m c)

/-- The kernel's second result. -/
theorem loss : Pipeline.afterTail₀ cfgs (dats m) 0 (V0 m) [hostOps1] c main_v8
    = fun _ => lossSum (argX m c) (argE m c) * Ideal.ofBits .f32 0x35200000#32 := by
  unfold Pipeline.afterTail₀
  simp only [List.flatten_cons, List.flatten_nil, List.append_nil, hostOps1]
  after_results
  refine (congrArg (fun a => mulf (F := Ideal) (φ := .f32) (shapeCast S_ a shapeCasts_S1x1_S_)
    (constant (F := Ideal) S_ .f32 0x35200000#32)) (ended5 m c)).trans ?_
  funext i
  generalize lossSum (argX m c) (argE m c) = s
  rfl

end Cert.Results

end
-- ==== Proof.Equation.lean ====
/-
The equation.  Adding to a finite input what leads from it to the chosen row gives the chosen row; and one and a quarter
times a sum, over a number, is the sum over that number and a quarter of it again.
-/
module

public import proofs.«01_k».proof.Proof.Reference
public import proofs.«01_k».proof.Defs

@[expose] public section

set_option maxRecDepth 16384

noncomputable section

namespace Cert.Equation

open Idealize.ShloMosaic Idealize.ShloMosaic.TcCoe Idealize.SL.Sem
open Cert.Arrays Cert.Reference

/-- What the precondition's side conditions ask. -/
theorem prefacts : Cert.Pre_finite_inputs.Facts := ⟨by decide⟩

attribute [local instance] Cert.ReferenceIdeal.Gen.facts prefacts

/-- A number whose absolute value is below infinity is finite. -/
theorem finite_of_abs {x : EReal} (h : max x (-x) < ⊤) : x ≠ ⊤ ∧ x ≠ ⊥ := by
  constructor
  · rintro rfl
    simp at h
  · rintro rfl
    simp at h

/-- Adding to a finite number what leads from it to another gives the other. -/
theorem add_sub_self {x : EReal} (q : EReal) (ht : x ≠ ⊤) (hb : x ≠ ⊥) : x + (q - x) = q := by
  lift x to ℝ using ⟨ht, hb⟩
  induction q with
  | bot => simp
  | top => simp
  | coe q => exact_mod_cast add_sub_cancel x q

/-- The precondition holds of finite inputs only. -/
theorem finite_of_pre (X : FVec Ideal ⟨5, ![4, 64, 8, 32, 32]⟩ .f32) (E : FVec Ideal ⟨2, ![1024, 64]⟩ .f32)
    (h : Cert.Pre_finite_inputs.fn (F := Ideal) X E = fun _ => 1#1) (i : (⟨5, ![4, 64, 8, 32, 32]⟩ : Shape).Idx) :
    X i ≠ ⊤ ∧ X i ≠ ⊥ := by
  refine finite_of_abs ?_
  have h' : Ideal.cmp .olt (max (X i) (-X i)) (Ideal.ofBits .f32 0x7F800000#32) = 1 := congrFun h i
  rw [Nearest.ofBits_inf] at h'
  by_contra hn
  rw [show Ideal.cmp .olt (max (X i) (-X i)) ⊤ = BitVec.ofBool (decide (max (X i) (-X i) < ⊤)) from rfl, decide_eq_false hn] at h'
  exact absurd h' (by decide)

/-- The number of squared differences. -/
theorem ofBits_count : Ideal.ofBits .f32 0x4A000000#32 = ((2097152 : ℝ) : EReal) := by
  simp [Ideal.ofBits, Ideal.ieee]
  norm_cast
  norm_num

/-- A quarter. -/
theorem ofBits_quarter : Ideal.ofBits .f32 0x3E800000#32 = ((1 / 4 : ℝ) : EReal) := by
  simp [Ideal.ofBits, Ideal.ieee]
  norm_cast
  norm_num

/-- One and a quarter over the number of squared differences. -/
theorem ofBits_scale : Ideal.ofBits .f32 0x35200000#32 = ((5 / 8388608 : ℝ) : EReal) := by
  simp [Ideal.ofBits, Ideal.ieee]
  norm_cast
  norm_num

/-- The kernel's one product is the reference's mean and a quarter of it. -/
theorem scale_eq (s : EReal) (h : 0 ≤ s) :
    Ideal.div s (Ideal.ofBits .f32 0x4A000000#32)
      + Ideal.ofBits .f32 0x3E800000#32 * Ideal.div s (Ideal.ofBits .f32 0x4A000000#32) = s * Ideal.ofBits .f32 0x35200000#32 := by
  rw [ofBits_count, ofBits_quarter, ofBits_scale, Ideal.div_coe (by norm_num)]
  induction s with
  | bot => simp at h
  | top =>
    rw [EReal.top_mul_coe_of_pos (by norm_num), EReal.top_mul_coe_of_pos (by norm_num), EReal.coe_mul_top_of_pos (by norm_num)]
    rfl
  | coe s => norm_cast; ring

/-- A square is at least zero. -/
theorem square_nonneg (x : EReal) : 0 ≤ x * x := by
  induction x with
  | bot => simp
  | top => simp
  | coe x => exact_mod_cast mul_self_nonneg x

/-- So is the sum of the squared differences. -/
theorem lossSum_nonneg (X : FVec Ideal ⟨5, ![4, 64, 8, 32, 32]⟩ .f32) (E : FVec Ideal ⟨2, ![1024, 64]⟩ .f32) : 0 ≤ lossSum X E :=
  Finset.sum_nonneg fun n _ => Finset.sum_nonneg fun l _ => square_nonneg _

/-- The reference's first result, of finite inputs, is the chosen rows laid out as the inputs are. -/
theorem quant_eq (X : FVec Ideal ⟨5, ![4, 64, 8, 32, 32]⟩ .f32) (E : FVec Ideal ⟨2, ![1024, 64]⟩ .f32)
    (h : Cert.Pre_finite_inputs.fn (F := Ideal) X E = fun _ => 1#1) : outQuant X E = spread (quantArr X E) :=
  (Reference.quant_eq X E).trans (funext fun i => add_sub_self _ (finite_of_pre X E h i).1 (finite_of_pre X E h i).2)

/-- The reference's second result is the kernel's product. -/
theorem loss_eq (X : FVec Ideal ⟨5, ![4, 64, 8, 32, 32]⟩ .f32) (E : FVec Ideal ⟨2, ![1024, 64]⟩ .f32) :
    outLoss X E = fun _ => lossSum X E * Ideal.ofBits .f32 0x35200000#32 :=
  (Reference.loss_eq X E).trans (funext fun _ => scale_eq _ (lossSum_nonneg X E))

end Cert.Equation

end
-- ==== Proof.lean ====
/-
The claims, put together: each program runs to its end and leaves its arguments and semaphores as they were, and on finite
inputs the kernel and the reference return the same three arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Results
public import proofs.«01_k».proof.Proof.Equation
public import Idealize.ShloMosaic.Adequacy
public import Idealize.ShloMosaic.Init
public import Idealize.ShloMosaic.Lib.Claim
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Idealize.SL.Sem
open Cert.Arrays Cert.Equation
open Cert.Reference (found_eq quantOf lossOf taken numbers refIdx distArr idx_out_eq)

attribute [local instance] Cert.Kernel.Gen.facts Cert.KernelIdeal.Gen.facts Cert.ReferenceIdeal.Gen.facts prefacts

set_option maxHeartbeats 1600000 in
/-- The reference runs to its end and leaves its arguments and semaphores as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) := by
  have h : θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
    hlo_run
  exact (θ_run _ _ _).mono (fun r h => ⟨h, sem_eq_zero_of_no_sems (by decide) r.2⟩) h

set_option maxHeartbeats 3200000 in
/-- On finite inputs the kernel and the reference return the same three arrays. -/
theorem algebraic : Cert.algebraic_KernelIdeal_ReferenceIdeal_pre_finite_inputs := by
  pair_intro
  · run_from Cert.KernelIdeal.Gen.run_main m g
    exact Cert.KernelIdeal.Gen.W_main_arg0 m (Cert.KernelIdeal.Gen.dats m) c
  · hlo_run
    · refine Eq.trans ?_ ((quant_eq (argX m c) (argE m c) (hpre c)).trans (Results.quant m c).symm)
      simp only [StableHlo.TRef.ofBuf_toBuf, found_eq]
      refine congrArg (quantOf (argX m c)) (a₂ := taken (argE m c) (refIdx (argX m c) (argE m c))) ?_
      refine eq_of_heq ((cast_heq _ _).trans (heq_of_eq ?_))
      refine congrArg₂ taken rfl (congrArg numbers (a₂ := distArr (argX m c) (argE m c)) ?_)
      exact eq_of_heq ((cast_heq _ _).trans (heq_of_eq rfl))
    · refine Eq.trans ?_ ((loss_eq (argX m c) (argE m c)).trans (Results.loss m c).symm)
      simp only [StableHlo.TRef.ofBuf_toBuf, found_eq]
      refine congrArg (lossOf (argX m c)) (a₂ := taken (argE m c) (refIdx (argX m c) (argE m c))) ?_
      refine eq_of_heq ((cast_heq _ _).trans (heq_of_eq ?_))
      refine congrArg₂ taken rfl (congrArg numbers (a₂ := distArr (argX m c) (argE m c)) ?_)
      exact eq_of_heq ((cast_heq _ _).trans (heq_of_eq rfl))
    · refine Eq.trans ?_ ((idx_out_eq (argX m c) (argE m c)).trans (Results.idx m c).symm)
      simp only [StableHlo.TRef.ofBuf_toBuf, found_eq]
      rfl

/-- The whole statement. -/
theorem claim : Cert.Claim :=
  ⟨Cert.Kernel.Gen.facts, Cert.KernelIdeal.Gen.facts, Cert.ReferenceIdeal.Gen.facts, prefacts,
    fun m ρ _ => Cert.Kernel.Gen.frame m ρ, fun m ρ _ => Cert.KernelIdeal.Gen.frame m ρ,
    fun m ρ _ => Cert.KernelIdeal.Gen.frame m ρ, fun m g _ => reference_frame m g, fun m g _ => reference_frame m g,
    trivial, algebraic⟩

end Cert.Proof

end
